-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_values)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_values) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x80x128x128 : Shape := ⟨4, ![16, 80, 128, 128]⟩
abbrev S16x2x128x128 : Shape := ⟨4, ![16, 2, 128, 128]⟩
abbrev S16x1310720 : Shape := ⟨2, ![16, 1310720]⟩
abbrev S16x100 : Shape := ⟨2, ![16, 100]⟩
abbrev S_ : Shape := ⟨0, ![]⟩
abbrev S16x128 : Shape := ⟨2, ![16, 128]⟩
abbrev S16x128x1 : Shape := ⟨3, ![16, 128, 1]⟩
abbrev S16x128x8 : Shape := ⟨3, ![16, 128, 8]⟩
abbrev S1x128x1 : Shape := ⟨3, ![1, 128, 1]⟩
abbrev S1x2x128x128 : Shape := ⟨4, ![1, 2, 128, 128]⟩
abbrev S1x128x8 : Shape := ⟨3, ![1, 128, 8]⟩
abbrev S128x1 : Shape := ⟨2, ![128, 1]⟩
abbrev S128x128 : Shape := ⟨2, ![128, 128]⟩
abbrev S1x1x128x128 : Shape := ⟨4, ![1, 1, 128, 128]⟩
abbrev S128 : Shape := ⟨1, ![128]⟩
abbrev S128x8 : Shape := ⟨2, ![128, 8]⟩
abbrev S16x100x1 : Shape := ⟨3, ![16, 100, 1]⟩
abbrev S16x100x4 : Shape := ⟨3, ![16, 100, 4]⟩

abbrev nBuf : Space → Nat
  | .hbm => 14
  | .vmem => 8
  | .smem => 0
  | _ => 0

abbrev bufTy : (tb : Table) → Fin (tcTables nBuf tb) → BufTy
  | .hbm, ⟨0, _⟩ => ⟨S16x80x128x128, .f32⟩
  | .hbm, ⟨1, _⟩ => ⟨S16x2x128x128, .f32⟩
  | .hbm, ⟨2, _⟩ => ⟨S16x2x128x128, .f32⟩
  | .hbm, ⟨3, _⟩ => ⟨S16x1310720, .f32⟩
  | .hbm, ⟨4, _⟩ => ⟨S16x100, .f32⟩
  | .hbm, ⟨5, _⟩ => ⟨S16x100, .i32⟩
  | .hbm, ⟨6, _⟩ => ⟨S_, .i32⟩
  | .hbm, ⟨7, _⟩ => ⟨S_, .i32⟩
  | .hbm, ⟨8, _⟩ => ⟨S16x128, .i32⟩
  | .hbm, ⟨9, _⟩ => ⟨S16x128x1, .i32⟩
  | .hbm, ⟨10, _⟩ => ⟨S16x128x8, .f32⟩
  | .hbm, ⟨11, _⟩ => ⟨S16x100x1, .f32⟩
  | .hbm, ⟨12, _⟩ => ⟨S16x100, .f32⟩
  | .hbm, ⟨13, _⟩ => ⟨S16x100x4, .f32⟩
  | .local _ .vmem, ⟨0, _⟩ => ⟨S1x128x1, .i32⟩
  | .local _ .vmem, ⟨1, _⟩ => ⟨S1x128x1, .i32⟩
  | .local _ .vmem, ⟨2, _⟩ => ⟨S1x2x128x128, .f32⟩
  | .local _ .vmem, ⟨3, _⟩ => ⟨S1x2x128x128, .f32⟩
  | .local _ .vmem, ⟨4, _⟩ => ⟨S1x2x128x128, .f32⟩
  | .local _ .vmem, ⟨5, _⟩ => ⟨S1x2x128x128, .f32⟩
  | .local _ .vmem, ⟨6, _⟩ => ⟨S1x128x8, .f32⟩
  | .local _ .vmem, ⟨7, _⟩ => ⟨S1x128x8, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x80x128x128 : Shape := ⟨4, ![16, 80, 128, 128]⟩
abbrev S16x2x128x128 : Shape := ⟨4, ![16, 2, 128, 128]⟩
abbrev S16x1310720 : Shape := ⟨2, ![16, 1310720]⟩
abbrev S16x100 : Shape := ⟨2, ![16, 100]⟩
abbrev S_ : Shape := ⟨0, ![]⟩
abbrev S16x128x128x2 : Shape := ⟨4, ![16, 128, 128, 2]⟩
abbrev S16x16384x2 : Shape := ⟨3, ![16, 16384, 2]⟩
abbrev S16 : Shape := ⟨1, ![16]⟩
abbrev S16x1 : Shape := ⟨2, ![16, 1]⟩
abbrev S16x100x1 : Shape := ⟨3, ![16, 100, 1]⟩
abbrev S16x100x3 : Shape := ⟨3, ![16, 100, 3]⟩
abbrev S16x100x4 : Shape := ⟨3, ![16, 100, 4]⟩

abbrev nBuf : Space → Nat
  | .hbm => 194
  | .vmem => 0
  | .smem => 0
  | _ => 0

abbrev hbmTy0_0 (i : Nat) : BufTy := match i % 128 with
  | 0 => ⟨S16x80x128x128, .f32⟩
  | 1 => ⟨S16x2x128x128, .f32⟩
  | 2 => ⟨S16x2x128x128, .f32⟩
  | 3 => ⟨S16x1310720, .f32⟩
  | 4 => ⟨S16x100, .f32⟩
  | 5 => ⟨S16x100, .i32⟩
  | 6 => ⟨S16x100, .f32⟩
  | 7 => ⟨S_, .f32⟩
  | 8 => ⟨S16x100, .f32⟩
  | 9 => ⟨S16x100, .f32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S16x100, .i32⟩
  | 17 => ⟨S16x100, .i32⟩
  | 18 => ⟨S_, .i32⟩
  | 19 => ⟨S16x100, .i32⟩
  | 20 => ⟨S16x100, .i1⟩
  | 21 => ⟨S_, .i32⟩
  | 22 => ⟨S16x100, .i32⟩
  | 23 => ⟨S16x100, .i1⟩
  | 24 => ⟨S_, .i32⟩
  | 25 => ⟨S_, .i1⟩
  | 26 => ⟨S16x100, .i1⟩
  | 27 => ⟨S16x100, .i1⟩
  | 28 => ⟨S16x100, .i1⟩
  | 29 => ⟨S16x100, .i32⟩
  | 30 => ⟨S16x100, .i32⟩
  | 31 => ⟨S16x100, .i32⟩
  | 32 => ⟨S16x100, .f32⟩
  | 33 => ⟨S_, .f32⟩
  | 34 => ⟨S16x100, .f32⟩
  | 35 => ⟨S16x100, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16x100, .i32⟩
  | 43 => ⟨S16x100, .i32⟩
  | 44 => ⟨S_, .i32⟩
  | 45 => ⟨S16x100, .i32⟩
  | 46 => ⟨S16x100, .i1⟩
  | 47 => ⟨S_, .i32⟩
  | 48 => ⟨S16x100, .i32⟩
  | 49 => ⟨S16x100, .i1⟩
  | 50 => ⟨S_, .i32⟩
  | 51 => ⟨S_, .i1⟩
  | 52 => ⟨S16x100, .i1⟩
  | 53 => ⟨S16x100, .i1⟩
  | 54 => ⟨S16x100, .i1⟩
  | 55 => ⟨S16x100, .i32⟩
  | 56 => ⟨S16x100, .i32⟩
  | 57 => ⟨S16x100, .i32⟩
  | 58 => ⟨S16x128x128x2, .f32⟩
  | 59 => ⟨S16x16384x2, .f32⟩
  | 60 => ⟨S16x128x128x2, .f32⟩
  | 61 => ⟨S16x16384x2, .f32⟩
  | 62 => ⟨S16, .i32⟩
  | 63 => ⟨S16x1, .i32⟩
  | 64 => ⟨S16x100, .i32⟩
  | 65 => ⟨S_, .i32⟩
  | 66 => ⟨S16x100, .i32⟩
  | 67 => ⟨S_, .i32⟩
  | 68 => ⟨S16x100, .i32⟩
  | 69 => ⟨S_, .i32⟩
  | 70 => ⟨S16x100, .i32⟩
  | 71 => ⟨S16x100, .i1⟩
  | 72 => ⟨S_, .i32⟩
  | 73 => ⟨S16x100, .i32⟩
  | 74 => ⟨S16x100, .i32⟩
  | 75 => ⟨S16x100, .i32⟩
  | 76 => ⟨S_, .i32⟩
  | 77 => ⟨S16x100, .i32⟩
  | 78 => ⟨S16x100, .i1⟩
  | 79 => ⟨S_, .i32⟩
  | 80 => ⟨S16x100, .i32⟩
  | 81 => ⟨S16x100, .i32⟩
  | 82 => ⟨S16x100, .i32⟩
  | 83 => ⟨S_, .i32⟩
  | 84 => ⟨S16x100, .i32⟩
  | 85 => ⟨S16x100, .i1⟩
  | 86 => ⟨S_, .i32⟩
  | 87 => ⟨S16x100, .i32⟩
  | 88 => ⟨S16x100, .i32⟩
  | 89 => ⟨S16x100, .i32⟩
  | 90 => ⟨S16x100x1, .i32⟩
  | 91 => ⟨S16x100x1, .i32⟩
  | 92 => ⟨S16x100x1, .i32⟩
  | 93 => ⟨S16x100x3, .i32⟩
  | 94 => ⟨S16x100, .f32⟩
  | 95 => ⟨S_, .i32⟩
  | 96 => ⟨S16x100, .i32⟩
  | 97 => ⟨S16x100, .i1⟩
  | 98 => ⟨S_, .i32⟩
  | 99 => ⟨S16x100, .i32⟩
  | 100 => ⟨S16x100, .i32⟩
  | 101 => ⟨S16x100, .i32⟩
  | 102 => ⟨S_, .i32⟩
  | 103 => ⟨S16x100, .i32⟩
  | 104 => ⟨S16x100, .i1⟩
  | 105 => ⟨S_, .i32⟩
  | 106 => ⟨S16x100, .i32⟩
  | 107 => ⟨S16x100, .i32⟩
  | 108 => ⟨S16x100, .i32⟩
  | 109 => ⟨S_, .i32⟩
  | 110 => ⟨S16x100, .i32⟩
  | 111 => ⟨S16x100, .i1⟩
  | 112 => ⟨S_, .i32⟩
  | 113 => ⟨S16x100, .i32⟩
  | 114 => ⟨S16x100, .i32⟩
  | 115 => ⟨S16x100, .i32⟩
  | 116 => ⟨S16x100x1, .i32⟩
  | 117 => ⟨S16x100x1, .i32⟩
  | 118 => ⟨S16x100x1, .i32⟩
  | 119 => ⟨S16x100x3, .i32⟩
  | 120 => ⟨S16x100, .f32⟩
  | 121 => ⟨S16x100, .f32⟩
  | 122 => ⟨S16x100, .f32⟩
  | 123 => ⟨S16x100, .f32⟩
  | 124 => ⟨S_, .i32⟩
  | 125 => ⟨S16x100, .i32⟩
  | 126 => ⟨S16x100, .i1⟩
  | 127 => ⟨S_, .i32⟩
  | _ => ⟨S16x80x128x128, .f32⟩

abbrev hbmTy0_1 (i : Nat) : BufTy := match i % 128 with
  | 0 => ⟨S16x100, .i32⟩
  | 1 => ⟨S16x100, .i32⟩
  | 2 => ⟨S16x100, .i32⟩
  | 3 => ⟨S_, .i32⟩
  | 4 => ⟨S16x100, .i32⟩
  | 5 => ⟨S16x100, .i1⟩
  | 6 => ⟨S_, .i32⟩
  | 7 => ⟨S16x100, .i32⟩
  | 8 => ⟨S16x100, .i32⟩
  | 9 => ⟨S16x100, .i32⟩
  | 10 => ⟨S_, .i32⟩
  | 11 => ⟨S16x100, .i32⟩
  | 12 => ⟨S16x100, .i1⟩
  | 13 => ⟨S_, .i32⟩
  | 14 => ⟨S16x100, .i32⟩
  | 15 => ⟨S16x100, .i32⟩
  | 16 => ⟨S16x100, .i32⟩
  | 17 => ⟨S16x100x1, .i32⟩
  | 18 => ⟨S16x100x1, .i32⟩
  | 19 => ⟨S16x100x1, .i32⟩
  | 20 => ⟨S16x100x3, .i32⟩
  | 21 => ⟨S16x100, .f32⟩
  | 22 => ⟨S_, .i32⟩
  | 23 => ⟨S16x100, .i32⟩
  | 24 => ⟨S16x100, .i1⟩
  | 25 => ⟨S_, .i32⟩
  | 26 => ⟨S16x100, .i32⟩
  | 27 => ⟨S16x100, .i32⟩
  | 28 => ⟨S16x100, .i32⟩
  | 29 => ⟨S_, .i32⟩
  | 30 => ⟨S16x100, .i32⟩
  | 31 => ⟨S16x100, .i1⟩
  | 32 => ⟨S_, .i32⟩
  | 33 => ⟨S16x100, .i32⟩
  | 34 => ⟨S16x100, .i32⟩
  | 35 => ⟨S16x100, .i32⟩
  | 36 => ⟨S_, .i32⟩
  | 37 => ⟨S16x100, .i32⟩
  | 38 => ⟨S16x100, .i1⟩
  | 39 => ⟨S_, .i32⟩
  | 40 => ⟨S16x100, .i32⟩
  | 41 => ⟨S16x100, .i32⟩
  | 42 => ⟨S16x100, .i32⟩
  | 43 => ⟨S16x100x1, .i32⟩
  | 44 => ⟨S16x100x1, .i32⟩
  | 45 => ⟨S16x100x1, .i32⟩
  | 46 => ⟨S16x100x3, .i32⟩
  | 47 => ⟨S16x100, .f32⟩
  | 48 => ⟨S_, .f32⟩
  | 49 => ⟨S16x100, .f32⟩
  | 50 => ⟨S16x100, .f32⟩
  | 51 => ⟨S_, .f32⟩
  | 52 => ⟨S16x100, .f32⟩
  | 53 => ⟨S16x100, .f32⟩
  | 54 => ⟨S16x100, .f32⟩
  | 55 => ⟨S16x100, .f32⟩
  | 56 => ⟨S16x100, .f32⟩
  | 57 => ⟨S16x100, .f32⟩
  | 58 => ⟨S16x100x1, .f32⟩
  | 59 => ⟨S16x100x1, .f32⟩
  | 60 => ⟨S16x100x1, .f32⟩
  | 61 => ⟨S16x100x1, .f32⟩
  | 62 => ⟨S16x100x4, .f32⟩
  | 63 => ⟨S_, .f32⟩
  | 64 => ⟨S16x100x4, .f32⟩
  | 65 => ⟨S16x100x4, .f32⟩
  | _ => ⟨S16x80x128x128, .f32⟩

abbrev hbmTy (i : Nat) : BufTy := match i / 128 with
  | 0 => hbmTy0_0 i
  | 1 => hbmTy0_1 i
  | _ => ⟨S16x80x128x128, .f32⟩

abbrev bufTy : (tb : Table) → Fin (tcTables nBuf tb) → BufTy
  | .hbm, ⟨i, _⟩ => hbmTy i
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_2 : Ref sig .tc := ⟨.hbm, 65, rfl⟩
abbrev main_v16 : Ref sig .tc := ⟨.hbm, 66, rfl⟩
abbrev main_c_3 : Ref sig .tc := ⟨.hbm, 67, rfl⟩
abbrev main_v17 : Ref sig .tc := ⟨.hbm, 68, rfl⟩
abbrev main_c_4 : Ref sig .tc := ⟨.hbm, 69, rfl⟩
abbrev main_v18 : Ref sig .tc := ⟨.hbm, 70, rfl⟩
abbrev main_v19 : Ref sig .tc := ⟨.hbm, 71, rfl⟩
abbrev main_c_5 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_c_6 : Ref sig .tc := ⟨.hbm, 76, rfl⟩
abbrev main_v23 : Ref sig .tc := ⟨.hbm, 77, rfl⟩
abbrev main_v24 : Ref sig .tc := ⟨.hbm, 78, rfl⟩
abbrev main_c_7 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_c_8 : Ref sig .tc := ⟨.hbm, 83, rfl⟩
abbrev main_v28 : Ref sig .tc := ⟨.hbm, 84, rfl⟩
abbrev main_v29 : Ref sig .tc := ⟨.hbm, 85, rfl⟩
abbrev main_c_9 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_c_10 : Ref sig .tc := ⟨.hbm, 95, rfl⟩
abbrev main_v38 : Ref sig .tc := ⟨.hbm, 96, rfl⟩
abbrev main_v39 : Ref sig .tc := ⟨.hbm, 97, rfl⟩
abbrev main_c_11 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_12 : Ref sig .tc := ⟨.hbm, 102, rfl⟩
abbrev main_v43 : Ref sig .tc := ⟨.hbm, 103, rfl⟩
abbrev main_v44 : Ref sig .tc := ⟨.hbm, 104, rfl⟩
abbrev main_c_13 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_14 : Ref sig .tc := ⟨.hbm, 109, rfl⟩
abbrev main_v48 : Ref sig .tc := ⟨.hbm, 110, rfl⟩
abbrev main_v49 : Ref sig .tc := ⟨.hbm, 111, rfl⟩
abbrev main_c_15 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_c_16 : Ref sig .tc := ⟨.hbm, 124, rfl⟩
abbrev main_v61 : Ref sig .tc := ⟨.hbm, 125, rfl⟩
abbrev main_v62 : Ref sig .tc := ⟨.hbm, 126, rfl⟩
abbrev main_c_17 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_c_18 : Ref sig .tc := ⟨.hbm, 131, rfl⟩
abbrev main_v66 : Ref sig .tc := ⟨.hbm, 132, rfl⟩
abbrev main_v67 : Ref sig .tc := ⟨.hbm, 133, rfl⟩
abbrev main_c_19 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_c_20 : Ref sig .tc := ⟨.hbm, 138, rfl⟩
abbrev main_v71 : Ref sig .tc := ⟨.hbm, 139, rfl⟩
abbrev main_v72 : Ref sig .tc := ⟨.hbm, 140, rfl⟩
abbrev main_c_21 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_c_22 : Ref sig .tc := ⟨.hbm, 150, rfl⟩
abbrev main_v81 : Ref sig .tc := ⟨.hbm, 151, rfl⟩
abbrev main_v82 : Ref sig .tc := ⟨.hbm, 152, rfl⟩
abbrev main_c_23 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_c_24 : Ref sig .tc := ⟨.hbm, 157, rfl⟩
abbrev main_v86 : Ref sig .tc := ⟨.hbm, 158, rfl⟩
abbrev main_v87 : Ref sig .tc := ⟨.hbm, 159, rfl⟩
abbrev main_c_25 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_c_26 : Ref sig .tc := ⟨.hbm, 164, rfl⟩
abbrev main_v91 : Ref sig .tc := ⟨.hbm, 165, rfl⟩
abbrev main_v92 : Ref sig .tc := ⟨.hbm, 166, rfl⟩
abbrev main_c_27 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_cst_28 : Ref sig .tc := ⟨.hbm, 176, rfl⟩
abbrev main_v101 : Ref sig .tc := ⟨.hbm, 177, rfl⟩
abbrev main_v102 : Ref sig .tc := ⟨.hbm, 178, rfl⟩
abbrev main_cst_29 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_30 : Ref sig .tc := ⟨.hbm, 191, rfl⟩
abbrev main_v114 : Ref sig .tc := ⟨.hbm, 192, rfl⟩
abbrev main_v115 : Ref sig .tc := ⟨.hbm, 193, rfl⟩

abbrev nD : Nat := 1
abbrev τ : Topo := Topo.v7x

variable {F : FTy → Type} [FloatOps F]
-- ==== Proof.Words.lean ====
/- Words as positions. A word of 32 bits names a cell of a 128 × 128 plane by its low 14 bits: seven bits of row, seven
   bits of column. This file says what the kernel's masks and shift, and the reference's remainders and wraps of negative
   indices, make of such a word. Nothing is assumed of the word: it may be negative. -/
module

public import Idealize.ShloMosaic.Lib.Pointwise

@[expose] public section

set_option maxRecDepth 16384

namespace Cert.Proof

open Idealize.ShloMosaic

/-- The cell a word names: its low 14 bits. -/
def cell (w : BitVec 32) : BitVec 32 := w &&& 16383#32

/-- The cell's number is the word's, read unsigned, modulo 16384. -/
theorem cell_toNat (w : BitVec 32) : (cell w).toNat = w.toNat % 16384 := by
  unfold cell
  rw [BitVec.toNat_and, show (16383#32).toNat = 2 ^ 14 - 1 from rfl, Nat.and_two_pow_sub_one_eq_mod]

theorem cell_lt (w : BitVec 32) : (cell w).toNat < 16384 := by
  rw [cell_toNat]; omega

/-- A word below 2 ^ 31 reads the same signed and unsigned. -/
theorem toInt_of_lt (t : BitVec 32) (h : t.toNat < 16384) : t.toInt = (t.toNat : Int) := by
  rw [BitVec.toInt_eq_toNat_cond, if_pos (by omega)]

theorem cell_toInt (w : BitVec 32) : (cell w).toInt = ((cell w).toNat : Int) := toInt_of_lt _ (cell_lt w)

/-- The cell's number is also the word's, read signed, modulo 16384 (the remainder that is never negative). -/
theorem cell_toInt_emod (w : BitVec 32) : (cell w).toInt = w.toInt % 16384 := by
  rw [cell_toInt, cell_toNat, BitVec.toInt_eq_toNat_cond]
  have := w.isLt
  split <;> omega

/-- The row of the cell a word names. -/
def row (w : BitVec 32) : Fin 128 := ⟨(cell w).toNat / 128, by have := cell_lt w; omega⟩
/-- The column of the cell a word names. -/
def col (w : BitVec 32) : Fin 128 := ⟨(cell w).toNat % 128, by omega⟩

/-- Masking the cell with 127 leaves its column. -/
theorem cell_and_127 (w : BitVec 32) : cell w &&& 127#32 = BitVec.ofNat 32 (col w).val := by
  apply BitVec.eq_of_toNat_eq
  rw [BitVec.toNat_and, show (127#32).toNat = 2 ^ 7 - 1 from rfl, Nat.and_two_pow_sub_one_eq_mod, BitVec.toNat_ofNat]
  have := (col w).isLt
  rw [Nat.mod_eq_of_lt (a := (col w).val) (by omega)]
  rfl

/-- Shifting the cell right by seven leaves its row. -/
theorem cell_shrsi_7 (w : BitVec 32) : IntOp.shrsi ArithUnit.vector (cell w) 7#32 = BitVec.ofNat 32 (row w).val := by
  unfold IntOp.shrsi
  rw [if_pos (by decide)]
  have hm : (cell w).msb = false := by
    rw [BitVec.msb_eq_decide, decide_eq_false_iff_not]
    have := cell_lt w
    omega
  apply BitVec.eq_of_toNat_eq
  have hl := (row w).isLt
  have e : (BitVec.ofNat 32 (row w).val).toNat = (row w).val := by
    rw [BitVec.toNat_ofNat]; exact Nat.mod_eq_of_lt (by omega)
  rw [BitVec.sshiftRight'.eq_def, BitVec.sshiftRight_eq_of_msb_false hm, BitVec.toNat_ushiftRight, e,
    Nat.shiftRight_eq_div_pow]
  rfl

/-- Two words of numbers below 128 compare equal exactly when the numbers are one. -/
theorem eq_word (a b : Fin 128) :
    IntOp.cmpi CmpIPredicate.eq (BitVec.ofNat 32 a.val) (BitVec.ofNat 32 b.val) = if a = b then 1#1 else 0#1 := by
  have h : BitVec.ofNat 32 a.val = BitVec.ofNat 32 b.val ↔ a = b := by
    constructor
    · intro e
      have e' := congrArg BitVec.toNat e
      rw [BitVec.toNat_ofNat, BitVec.toNat_ofNat] at e'
      have := a.isLt
      have := b.isLt
      exact Fin.ext (by omega)
    · rintro rfl; rfl
  unfold IntOp.cmpi
  by_cases hab : a = b
  · rw [if_pos hab, hab]; simp
  · rw [if_neg hab]
    have : (BitVec.ofNat 32 a.val == BitVec.ofNat 32 b.val) = false := by
      rw [beq_eq_false_iff_ne]; exact fun e => hab (h.mp e)
    simp only [this]; rfl

/-- The remainder that takes the divisor's sign, as a program spells it: the remainder of the dividend's sign, and the
    divisor added when that remainder is not zero and its sign differs from the divisor's. -/
def floorMod (w d : BitVec 32) : BitVec 32 :=
  Scalar.select
    (IntOp.andi (IntOp.cmpi CmpIPredicate.ne (IntOp.cmpi CmpIPredicate.slt (IntOp.remsi ArithUnit.host w d) 0#32) (IntOp.cmpi CmpIPredicate.slt d 0#32))
      (IntOp.cmpi CmpIPredicate.ne (IntOp.remsi ArithUnit.host w d) 0#32))
    (IntOp.addi (IntOp.remsi ArithUnit.host w d) d) (IntOp.remsi ArithUnit.host w d)

/-- For a divisor between 1 and 16384 that remainder is, read signed, the one that is never negative. -/
theorem floorMod_toInt (w d : BitVec 32) (h0 : 0 < d.toInt) (h1 : d.toInt ≤ 16384) :
    (floorMod w d).toInt = w.toInt % d.toInt := by
  have hc : ¬ IntOp.SDivCorner w d := by
    rintro (h | ⟨-, h⟩)
    · rw [h] at h0; exact absurd h0 (by decide)
    · rw [h] at h0; exact absurd h0 (by decide)
  have hr : IntOp.remsi ArithUnit.host w d = w.srem d := by unfold IntOp.remsi; rw [if_neg hc]
  have hdn : d.slt 0#32 = false := by
    rw [BitVec.slt_eq_decide]; simp only [BitVec.toInt_zero, decide_eq_false_iff_not]; omega
  have hi : (w.srem d).toInt = w.toInt.tmod d.toInt := BitVec.toInt_srem w d
  have hm := Int.tmod_eq_emod (a := w.toInt) (b := d.toInt)
  have hb0 := Int.emod_nonneg w.toInt (show d.toInt ≠ 0 by omega)
  have hb1 := Int.emod_lt_of_pos w.toInt h0
  have hnn := Int.tmod_nonneg (a := w.toInt) d.toInt
  unfold floorMod
  rw [hr]
  generalize hR : w.srem d = R at hi ⊢
  by_cases hneg : R.toInt < 0
  · have hs : R.slt 0#32 = true := by
      rw [BitVec.slt_eq_decide]; simp only [BitVec.toInt_zero, decide_eq_true_eq]; exact hneg
    have hne : (R != 0#32) = true := by
      rw [bne_iff_ne]; rintro rfl; exact absurd hneg (by decide)
    have hcond : IntOp.andi (IntOp.cmpi CmpIPredicate.ne (IntOp.cmpi CmpIPredicate.slt R 0#32) (IntOp.cmpi CmpIPredicate.slt d 0#32))
        (IntOp.cmpi CmpIPredicate.ne R 0#32) = 1#1 := by
      unfold IntOp.andi IntOp.cmpi
      simp only [hs, hne, hdn]; decide
    rw [hcond]
    show (R + d).toInt = _
    have hif : w.toInt % d.toInt = R.toInt + d.toInt := by
      rw [hi, hm]
      split
      · rename_i hq
        rw [hi, hm, if_pos hq] at hneg
        omega
      · have : (d.toInt.natAbs : Int) = d.toInt := by omega
        omega
    rw [BitVec.toInt_add, hif]
    rw [hif] at hb0 hb1
    exact Int.bmod_eq_of_le (by omega) (by omega)
  · have hs : R.slt 0#32 = false := by
      rw [BitVec.slt_eq_decide]; simp only [BitVec.toInt_zero, decide_eq_false_iff_not]; exact hneg
    have hcond : IntOp.andi (IntOp.cmpi CmpIPredicate.ne (IntOp.cmpi CmpIPredicate.slt R 0#32) (IntOp.cmpi CmpIPredicate.slt d 0#32))
        (IntOp.cmpi CmpIPredicate.ne R 0#32) = 0#1 := by
      unfold IntOp.andi IntOp.cmpi
      simp only [hs, hdn]
      rcases BitVec.eq_zero_or_eq_one (BitVec.ofBool (R != 0#32)) with h | h <;> rw [h] <;> decide
    rw [hcond]
    show R.toInt = _
    rw [hi, hm] at hneg ⊢
    split at hneg <;> rename_i hq
    · rw [if_pos hq]; omega
    · have : (d.toInt.natAbs : Int) = d.toInt := by omega
      omega

/-- The remainder by 16384 is the cell. -/
theorem floorMod_16384 (w : BitVec 32) : floorMod w 16384#32 = cell w := by
  apply BitVec.eq_of_toInt_eq
  rw [floorMod_toInt w _ (by decide) (by decide), cell_toInt_emod]
  rfl

/-- The cell's remainder by 128 is its column. -/
theorem floorMod_128 (w : BitVec 32) : floorMod (cell w) 128#32 = BitVec.ofNat 32 (col w).val := by
  apply BitVec.eq_of_toInt_eq
  rw [floorMod_toInt _ _ (by decide) (by decide), show (128#32).toInt = 128 from by decide, cell_toInt]
  have hl := (col w).isLt
  have e : (BitVec.ofNat 32 (col w).val).toNat = (col w).val := by
    rw [BitVec.toNat_ofNat]; exact Nat.mod_eq_of_lt (by omega)
  rw [toInt_of_lt _ (by omega), e]
  show _ = (((cell w).toNat % 128 : Nat) : Int)
  omega

/-- Wrapping a negative index: a word that is not negative stays as it is. -/
theorem wrap_of_lt (t d : BitVec 32) (h : t.toNat < 16384) :
    Scalar.select (IntOp.cmpi CmpIPredicate.slt t 0#32) (IntOp.addi t d) t = t := by
  have hs : t.slt 0#32 = false := by
    rw [BitVec.slt_eq_decide, toInt_of_lt t h]; simp only [BitVec.toInt_zero, decide_eq_false_iff_not]; omega
  have : IntOp.cmpi CmpIPredicate.slt t 0#32 = 0#1 := by
    unfold IntOp.cmpi; simp only [hs]; rfl
  rw [this]; rfl

end Cert.Proof
-- ==== Proof.Block.lean ====
/- What one block of the kernel computes. A row of the block belongs to one index word; its first five columns are the
   class and the four sides of the box, the other three are zero. The kernel reads a plane at a cell by two products with
   rows that are one at one position and zero elsewhere; here such a product is the plane's element at the cell. -/
module

public import proofs.«01_k».proof.Proof.Words
public import proofs.«01_k».proof.Proof.Gen.KernelIdeal.Skeleton
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-! ## Reading a plane by products with one-hot rows -/

/-- The row of a comparison with a position, as numbers: one at the position, zero elsewhere. -/
theorem bit_value (a b : Fin 128) :
    (((((BitVec.setWidth 32 (IntOp.cmpi CmpIPredicate.eq (BitVec.ofNat 32 a.val) (BitVec.ofNat 32 b.val))).toInt : ℤ) : ℝ)) : EReal)
      = if a = b then 1 else 0 := by
  rw [eq_word]
  by_cases h : a = b
  · rw [if_pos h, if_pos h]; simp
  · rw [if_neg h, if_neg h]; simp

/-- Summing against a one-hot row on the left picks one term: zero times anything, infinite or not, is zero. -/
theorem sum_pick_left (r : Fin 128) (f : Fin 128 → EReal) :
    (∑ k : Fin 128, (if k = r then (1 : EReal) else 0) * f k) = f r := by
  simp [ite_mul]

/-- Summing against a one-hot row on the right picks one term. -/
theorem sum_pick_right (r : Fin 128) (f : Fin 128 → EReal) :
    (∑ k : Fin 128, f k * (if k = r then (1 : EReal) else 0)) = f r := by
  simp [mul_ite]

/-! ## The literals -/

theorem lit_half : Ideal.ofBits FTy.f32 0x3F000000#32 = ((1 / 2 : ℝ) : EReal) := by
  simp [Ideal.ofBits, Ideal.ieee, -EReal.coe_mul]; norm_num
theorem lit_two : Ideal.ofBits FTy.f32 0x40000000#32 = ((2 : ℝ) : EReal) := by
  simp [Ideal.ofBits, Ideal.ieee, -EReal.coe_mul]; norm_num
theorem lit_128 : Ideal.ofBits FTy.f32 0x43000000#32 = ((128 : ℝ) : EReal) := by
  simp [Ideal.ofBits, Ideal.ieee, -EReal.coe_mul]; norm_num
theorem lit_128_inv : Ideal.ofBits FTy.f32 0x3C000000#32 = ((1 / 128 : ℝ) : EReal) := by
  simp [Ideal.ofBits, Ideal.ieee, -EReal.coe_mul]; norm_num
theorem lit_16384 : Ideal.ofBits FTy.f32 0x46800000#32 = ((16384 : ℝ) : EReal) := by
  simp [Ideal.ofBits, Ideal.ieee, -EReal.coe_mul]; norm_num
theorem lit_16384_inv : Ideal.ofBits FTy.f32 0x38800000#32 = ((1 / 16384 : ℝ) : EReal) := by
  simp [Ideal.ofBits, Ideal.ieee, -EReal.coe_mul]; norm_num

/-- Dividing by two is multiplying by one half, at every extended real. -/
theorem div_two (x : EReal) : Ideal.div x (Ideal.ofBits FTy.f32 0x40000000#32) = x * Ideal.ofBits FTy.f32 0x3F000000#32 := by
  rw [lit_two, lit_half, Ideal.div_coe (by norm_num)]
/-- Dividing by 128 is multiplying by its inverse. -/
theorem div_128 (x : EReal) : Ideal.div x (Ideal.ofBits FTy.f32 0x43000000#32) = x * Ideal.ofBits FTy.f32 0x3C000000#32 := by
  rw [lit_128, lit_128_inv, Ideal.div_coe (by norm_num)]
/-- Dividing by 16384 is multiplying by its inverse. -/
theorem div_16384 (x : EReal) : Ideal.div x (Ideal.ofBits FTy.f32 0x46800000#32) = x * Ideal.ofBits FTy.f32 0x38800000#32 := by
  rw [lit_16384, lit_16384_inv, Ideal.div_coe (by norm_num)]

/-! ## One index word's result -/

/-- A word read signed, as a number. -/
def num (w : BitVec 32) : EReal := ((w.toInt : ℝ) : EReal)

/-- The class of an index word: the word divided by the size of a plane. -/
def cls (w : BitVec 32) : EReal := Ideal.div (num w) (Ideal.ofBits FTy.f32 0x46800000#32)
/-- The centre's horizontal coordinate: the cell's column and the offset there. -/
def cx (w : BitVec 32) (o : EReal) : EReal := num (BitVec.ofNat 32 (col w).val) + o
/-- The centre's vertical coordinate: the cell's number divided by the width, not rounded, and the offset there. -/
def cy (w : BitVec 32) (o : EReal) : EReal := Ideal.div (num (cell w)) (Ideal.ofBits FTy.f32 0x43000000#32) + o
/-- Half an extent. -/
def half (e : EReal) : EReal := Ideal.div e (Ideal.ofBits FTy.f32 0x40000000#32)

/-- The four sides of the box of an index word, from the two offsets and the two extents at its cell: left, top, right,
    bottom, each four times the centre's coordinate less or more half the extent. -/
def box (w : BitVec 32) (ox oy ew eh : EReal) (j : Fin 4) : EReal :=
  (if j.val < 1 then cx w ox - half ew
    else if j.val - 1 < 1 then cy w oy - half eh
    else if j.val - 1 - 1 < 1 then cx w ox + half ew
    else cy w oy + half eh) * Ideal.ofBits FTy.f32 0x40800000#32

/-! ## The payloads at an index -/

theorem pay2_apply (v : Vec Ideal S1x128x1 .i32) (k : Fin 128) :
    k0_pay2 (F := Ideal) v (ix2 k 0) = cls (v (ix3 0 k 0)) := by
  pointwise [k0_pay2, k0_pay1, cls, div_16384]
  rfl

theorem pay3_apply (v : Vec Ideal S1x128x1 .i32) (k : Fin 128) :
    k0_pay3 (F := Ideal) v (ix2 k 0) = cell (v (ix3 0 k 0)) := by
  pointwise [k0_pay3, k0_pay1]
  rfl

theorem pay4_apply (v : Vec Ideal S1x128x1 .i32) (k : Fin 128) :
    k0_pay4 (F := Ideal) v (ix2 k 0)
      = Ideal.div (num (cell (v (ix3 0 k 0)))) (Ideal.ofBits FTy.f32 0x43000000#32) := by
  pointwise [k0_pay4, pay3_apply, div_128]
  rfl

theorem pay5_apply (v : Vec Ideal S1x128x1 .i32) (k : Fin 128) :
    k0_pay5 (F := Ideal) v (ix2 k 0) = BitVec.ofNat 32 (col (v (ix3 0 k 0))).val := by
  pointwise [k0_pay5, pay3_apply]
  exact cell_and_127 _

/-- The row selector: one at the cell's row. -/
theorem pay6_apply (v : Vec Ideal S1x128x1 .i32) (k x : Fin 128) :
    k0_pay6 (F := Ideal) v (ix2 k x) = if x = row (v (ix3 0 k 0)) then (1 : EReal) else 0 := by
  pointwise [k0_pay6, pay3_apply, cell_shrsi_7]
  exact bit_value x _

/-- The column selector: one at the cell's column. -/
theorem pay7_apply (v : Vec Ideal S1x128x1 .i32) (k x : Fin 128) :
    k0_pay7 (F := Ideal) v (ix2 k x) = if x = col (v (ix3 0 k 0)) then (1 : EReal) else 0 := by
  pointwise [k0_pay7, pay5_apply]
  exact bit_value x _

/-- The first plane read at the cell. -/
theorem pay8_apply (v : Vec Ideal S1x128x1 .i32) (p : Vec Ideal S1x1x128x128 .f32) (k : Fin 128) :
    k0_pay8 (F := Ideal) v p (ix2 k 0)
      = p (ix4 0 0 (row (v (ix3 0 k 0))) (col (v (ix3 0 k 0)))) := by
  pointwise [k0_pay8, pay6_apply, pay7_apply, sum_pick_left, sum_pick_right]

/-- The second plane read at the cell. -/
theorem pay9_apply (v : Vec Ideal S1x128x1 .i32) (p : Vec Ideal S1x1x128x128 .f32) (k : Fin 128) :
    k0_pay9 (F := Ideal) v p (ix2 k 0)
      = p (ix4 0 0 (row (v (ix3 0 k 0))) (col (v (ix3 0 k 0)))) := by
  pointwise [k0_pay9, pay6_apply, pay7_apply, sum_pick_left, sum_pick_right]

/-- The whole of what the body stores. -/
def stored (v : Vec Ideal S1x128x1 .i32) (ox oy ew eh : Vec Ideal S1x1x128x128 .f32) : FVec Ideal S1x128x8 .f32 :=
  k0_pay10 (k0_pay2 v) (k0_pay4 v) (k0_pay5 v) (k0_pay6 v) (k0_pay7 v) (k0_pay8 v ox) (k0_pay9 v oy) ew eh

/-- Column 0 of the block: the classes. -/
theorem stored_cls (v : Vec Ideal S1x128x1 .i32) (ox oy ew eh : Vec Ideal S1x1x128x128 .f32) (k : Fin 128) :
    stored v ox oy ew eh (ix3 0 k 0) = cls (v (ix3 0 k 0)) := by
  pointwise [stored, k0_pay10]
  exact pay2_apply v k

/-- Columns 1 to 4 of the block: the box. -/
theorem stored_box (v : Vec Ideal S1x128x1 .i32) (ox oy ew eh : Vec Ideal S1x1x128x128 .f32) (k : Fin 128) (j : Fin 4) :
    stored v ox oy ew eh (ix3 0 k ⟨1 + j.val, by omega⟩)
      = box (v (ix3 0 k 0))
          (ox (ix4 0 0 (row (v (ix3 0 k 0))) (col (v (ix3 0 k 0)))))
          (oy (ix4 0 0 (row (v (ix3 0 k 0))) (col (v (ix3 0 k 0)))))
          (ew (ix4 0 0 (row (v (ix3 0 k 0))) (col (v (ix3 0 k 0)))))
          (eh (ix4 0 0 (row (v (ix3 0 k 0))) (col (v (ix3 0 k 0))))) j := by
  unfold stored
  fin_cases j <;>
  · pointwise [k0_pay10, box, cx, cy, half, div_two, pay4_apply, pay5_apply, pay6_apply, pay7_apply, pay8_apply, pay9_apply, sum_pick_left, sum_pick_right]
    try rfl

end Cert.Proof
-- ==== Proof.Array.lean ====
/- What the array the kernel writes holds when the grid has run: at batch `b` the block of the index words of that batch
   and of the planes of that batch. One grid point writes one batch, and the sixteen points fill the array. -/
module

public import proofs.«01_k».proof.Proof.Block
public import proofs.«01_k».proof.Proof.Gen.KernelIdeal.Frame
public import Idealize.ShloMosaic.Lib.Pipeline.Value

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The index words of batch `b`, as a block. -/
def words (I : S16x128x1.Idx → BitVec 32) (b : Fin 16) : Vec Ideal S1x128x1 .i32 := fun y => I (ix3 b (y 1) 0)
/-- Plane `ch` of batch `b`, as a block. -/
def plane (x : S16x2x128x128.Idx → EReal) (b : Fin 16) (ch : Fin 2) : Vec Ideal S1x1x128x128 .f32 :=
  fun y => x (ix4 b ch (y 2) (y 3))

/-- The whole array: batch by batch what the body stores. -/
def whole (I : S16x128x1.Idx → BitVec 32) (reg wh : S16x2x128x128.Idx → EReal) : S16x128x8.Idx → EReal := fun i =>
  stored (words I (i 0)) (plane reg (i 0) 0) (plane reg (i 0) 1) (plane wh (i 0) 0) (plane wh (i 0) 1) (ix3 0 (i 1) (i 2))

variable (m : (ℓ : Loc nD τ sig) → Buf (Elt Ideal) ℓ)

/-- The batch a grid point works on. -/
def pt (t : Fin cfg0.N) : Fin 16 := ⟨t.val, by have h := t.isLt; have e : cfg0.N = 16 := N_0; omega⟩

theorem hz3 : (![0, 0, 0] : Fin 3 → Nat) = fun _ => 0 := funext fun a => by fin_cases a <;> rfl

/-! Where the blocks lie: at grid point `t`, at batch `t`, and at the origin of the other axes. -/

theorem at0 : ∀ t : Fin grid0.N, win0_0.index t 0 * win0_0.size 0 = t.val ∧ win0_0.index t 1 * win0_0.size 1 = 0
    ∧ win0_0.index t 2 * win0_0.size 2 = 0 := by decide +kernel
theorem at1 : ∀ t : Fin grid0.N, win0_1.index t 0 * win0_1.size 0 = t.val ∧ win0_1.index t 1 * win0_1.size 1 = 0
    ∧ win0_1.index t 2 * win0_1.size 2 = 0 ∧ win0_1.index t 3 * win0_1.size 3 = 0 := by decide +kernel
theorem at2 : ∀ t : Fin grid0.N, win0_2.index t 0 * win0_2.size 0 = t.val ∧ win0_2.index t 1 * win0_2.size 1 = 0
    ∧ win0_2.index t 2 * win0_2.size 2 = 0 ∧ win0_2.index t 3 * win0_2.size 3 = 0 := by decide +kernel
theorem at3 : ∀ t : Fin grid0.N, win0_3.index t 0 * win0_3.size 0 = t.val ∧ win0_3.index t 1 * win0_3.size 1 = 0
    ∧ win0_3.index t 2 * win0_3.size 2 = 0 := by decide +kernel
theorem ext3 : ∀ t : Fin grid0.N, win0_3.xsize (grid0.coords t) 0 = 1 ∧ win0_3.xsize (grid0.coords t) 1 = 128
    ∧ win0_3.xsize (grid0.coords t) 2 = 8 := by decide +kernel

/-- A block's element at an index: the array's at the block's place. -/
theorem iblk0_apply (c : Dev nD) (t : Fin cfg0.N) (k : Fin 128) :
    iblk m c 0 t (ix3 0 k 0) = V m c main_v2 (ix3 (pt t) k 0) := by
  show V m c main_v2 ((win0_0.rect t).emb (ix3 0 k 0)) = _
  refine congrArg (V m c main_v2) (funext fun a => Fin.ext ?_)
  obtain ⟨h0, h1, h2⟩ := at0 t
  match a with
  | ⟨0, _⟩ => show win0_0.index t 0 * win0_0.size 0 + 0 = t.val; omega
  | ⟨1, _⟩ => show win0_0.index t 1 * win0_0.size 1 + 1 * k.val = k.val; omega
  | ⟨2, _⟩ => show win0_0.index t 2 * win0_0.size 2 + 0 = 0; omega

theorem iblk1_apply (c : Dev nD) (t : Fin cfg0.N) (ch : Fin 2) (y x : Fin 128) :
    iblk m c 1 t (ix4 0 ch y x) = V m c main_arg2 (ix4 (pt t) ch y x) := by
  show V m c main_arg2 ((win0_1.rect t).emb (ix4 0 ch y x)) = _
  refine congrArg (V m c main_arg2) (funext fun a => Fin.ext ?_)
  obtain ⟨h0, h1, h2, h3⟩ := at1 t
  match a with
  | ⟨0, _⟩ => show win0_1.index t 0 * win0_1.size 0 + 0 = t.val; omega
  | ⟨1, _⟩ => show win0_1.index t 1 * win0_1.size 1 + 1 * ch.val = ch.val; omega
  | ⟨2, _⟩ => show win0_1.index t 2 * win0_1.size 2 + 1 * y.val = y.val; omega
  | ⟨3, _⟩ => show win0_1.index t 3 * win0_1.size 3 + 1 * x.val = x.val; omega

theorem iblk2_apply (c : Dev nD) (t : Fin cfg0.N) (ch : Fin 2) (y x : Fin 128) :
    iblk m c 2 t (ix4 0 ch y x) = V m c main_arg1 (ix4 (pt t) ch y x) := by
  show V m c main_arg1 ((win0_2.rect t).emb (ix4 0 ch y x)) = _
  refine congrArg (V m c main_arg1) (funext fun a => Fin.ext ?_)
  obtain ⟨h0, h1, h2, h3⟩ := at2 t
  match a with
  | ⟨0, _⟩ => show win0_2.index t 0 * win0_2.size 0 + 0 = t.val; omega
  | ⟨1, _⟩ => show win0_2.index t 1 * win0_2.size 1 + 1 * ch.val = ch.val; omega
  | ⟨2, _⟩ => show win0_2.index t 2 * win0_2.size 2 + 1 * y.val = y.val; omega
  | ⟨3, _⟩ => show win0_2.index t 3 * win0_2.size 3 + 1 * x.val = x.val; omega

/-- Equal loaded blocks, equal stored block. -/
theorem stored_congr {v v' : Vec Ideal S1x128x1 .i32} {a a' b b' d d' e e' : Vec Ideal S1x1x128x128 .f32}
    {y y' : S1x128x8.Idx} (hv : v = v') (ha : a = a') (hb : b = b') (hd : d = d') (he : e = e') (hy : y = y') :
    stored v a b d e y = stored v' a' b' d' e' y' := by
  subst hv ha hb hd he hy; rfl

/-- What grid point `t` writes back is block `t` of the whole array. -/
theorem flushed_eq (c : Dev nD) (t : Fin cfg0.N) :
    (dats m 0 c).flushed 3 t
      = (win0_3.blk t).view.read (Elt Ideal) (whole (V m c main_v2) (V m c main_arg2) (V m c main_arg1)) := by
  show (cfg0.win 3).cut (grid0.coords t) ((dats m 0 c).after 3 t) = _
  rw [after0_3]
  unfold out0_3
  rw [View.canon_unit_zero hz3]
  funext y
  obtain ⟨h0, h1, h2⟩ := at3 t
  have e0 : ((win0_3.rect t).emb y 0 : Fin 16) = pt t := by
    refine Fin.ext ?_
    show win0_3.index t 0 * win0_3.size 0 + 1 * (y 0).val = t.val
    have : (y 0).val < 1 := (y 0).isLt
    omega
  have e1 : ((win0_3.rect t).emb y 1 : Fin 128) = (y 1 : Fin 128) := by
    refine Fin.ext ?_
    show win0_3.index t 1 * win0_3.size 1 + 1 * (y 1).val = (y 1).val
    omega
  have e2 : ((win0_3.rect t).emb y 2 : Fin 8) = (y 2 : Fin 8) := by
    refine Fin.ext ?_
    show win0_3.index t 2 * win0_3.size 2 + 1 * (y 2).val = (y 2).val
    omega
  show _ = whole _ _ _ ((win0_3.rect t).emb y)
  unfold whole
  rw [e0, e1, e2]
  refine stored_congr ?_ ?_ ?_ ?_ ?_ ?_
  · rw [View.ld_unit_zero hz3]
    funext z
    idx_vars z
    obtain rfl : z0 = 0 := Subsingleton.elim _ _
    obtain rfl : z2 = 0 := Subsingleton.elim _ _
    exact iblk0_apply m c t z1
  · funext z
    idx_vars z
    obtain rfl : z0 = 0 := Subsingleton.elim _ _
    obtain rfl : z1 = 0 := Subsingleton.elim _ _
    pointwise
    exact iblk1_apply m c t 0 z2 z3
  · funext z
    idx_vars z
    obtain rfl : z0 = 0 := Subsingleton.elim _ _
    obtain rfl : z1 = 0 := Subsingleton.elim _ _
    pointwise
    exact iblk1_apply m c t 1 z2 z3
  · funext z
    idx_vars z
    obtain rfl : z0 = 0 := Subsingleton.elim _ _
    obtain rfl : z1 = 0 := Subsingleton.elim _ _
    pointwise
    exact iblk2_apply m c t 0 z2 z3
  · funext z
    idx_vars z
    obtain rfl : z0 = 0 := Subsingleton.elim _ _
    obtain rfl : z1 = 0 := Subsingleton.elim _ _
    pointwise
    exact iblk2_apply m c t 1 z2 z3
  · funext a
    match a with
    | ⟨0, _⟩ => exact Subsingleton.elim (α := Fin 1) _ _
    | ⟨1, _⟩ => rfl
    | ⟨2, _⟩ => rfl

/-- An index of the array is in point `t`'s block when its batch is `t`. -/
theorem mem_blk (t : Fin cfg0.N) (i : S16x128x8.Idx) :
    i ∈ ((cfg0.win 3).blk t).view.set ↔ (i 0 : Nat) = t.val := by
  show i ∈ ((View.whole main_v3).slice (win0_3.rect t)).set ↔ _
  rw [View.set_slice_whole, Rect.mem_set_unit]
  have l1 : (i 1 : Nat) < 128 := (i 1).isLt
  have l2 : (i 2 : Nat) < 8 := (i 2).isLt
  obtain ⟨h0, h1, h2⟩ := at3 t
  obtain ⟨x0, x1, x2⟩ := ext3 t
  refine ⟨fun h => ?_, fun h a => ?_⟩
  · have hb : win0_3.index t 0 * win0_3.size 0 ≤ (i 0 : Nat) ∧ (i 0 : Nat) < win0_3.index t 0 * win0_3.size 0 + win0_3.xsize (grid0.coords t) 0 := h 0
    rw [h0, x0] at hb; omega
  · match a with
    | ⟨0, _⟩ =>
      show win0_3.index t 0 * win0_3.size 0 ≤ (i 0 : Nat) ∧ (i 0 : Nat) < win0_3.index t 0 * win0_3.size 0 + win0_3.xsize (grid0.coords t) 0
      rw [h0, x0]; omega
    | ⟨1, _⟩ =>
      show win0_3.index t 1 * win0_3.size 1 ≤ (i 1 : Nat) ∧ (i 1 : Nat) < win0_3.index t 1 * win0_3.size 1 + win0_3.xsize (grid0.coords t) 1
      rw [h1, x1]; omega
    | ⟨2, _⟩ =>
      show win0_3.index t 2 * win0_3.size 2 ≤ (i 2 : Nat) ∧ (i 2 : Nat) < win0_3.index t 2 * win0_3.size 2 + win0_3.xsize (grid0.coords t) 2
      rw [h2, x2]; omega

/-- Every index is in some point's block. -/
theorem cover (i : S16x128x8.Idx) :
    ∃ t : Fin cfg0.N, (cfg0.win 3).flush t = true ∧ i ∈ ((cfg0.win 3).blk t).view.set := by
  have l0 : (i 0 : Nat) < 16 := (i 0).isLt
  have hN : cfg0.N = 16 := N_0
  refine ⟨⟨(i 0 : Nat), by omega⟩, flush0_3 _, ?_⟩
  rw [mem_blk]

/-- The array when the grid has run. -/
theorem final (c : Dev nD) :
    (dats m 0 c).arrAt 3 cfg0.N = whole (V m c main_v2) (V m c main_arg2) (V m c main_arg1) :=
  (dats m 0 c).arrAt_eq_of_cover 3 (whole (V m c main_v2) (V m c main_arg2) (V m c main_arg1))
    (fun t _ => flushed_eq m c t) cover

end Cert.Proof
-- ==== Proof.KernelRun.lean ====
/- The kernel's run, read at its three results. Before the grid the program takes the 100 largest scores of each batch and
   pads their positions from 100 to 128; after it, it cuts the classes and the boxes of the first 100 rows out of the
   array the grid wrote. -/
module

public import proofs.«01_k».proof.Proof.Array
public import Idealize.ShloMosaic.Lib.Pipeline.FrameTail

@[expose] public section

set_option maxRecDepth 16384

noncomputable section

namespace Cert.Proof

open Idealize.ShloMosaic Idealize.ShloMosaic.TcCoe Idealize.SL.Sem
open Cert.KernelIdeal Cert.KernelIdeal.Gen

/-- The largest 100 scores of each batch with their positions among the batch's 80 planes. -/
def top (x : S16x80x128x128.Idx → EReal) : (S16x100.Idx → EReal) × (S16x100.Idx → BitVec 32) :=
  Host.topK (α := Ideal .f32) S16x100 1 (FloatOps.cmpfTotal .gt)
    (shapeCast S16x1310720 (x : FVec Ideal S16x80x128x128 .f32) shapeCasts_S16x80x128x128_S16x1310720)
    sliceFits_S16x1310720_S16x100

/-- The classes: each position divided by the size of a plane. -/
def classes (x : S16x80x128x128.Idx → EReal) : S16x100.Idx → EReal := fun i => cls ((top x).2 i)

/-- The boxes: each from the two offsets and the two extents of its batch at its cell. -/
def boxes (x : S16x80x128x128.Idx → EReal) (wh reg : S16x2x128x128.Idx → EReal) : S16x100x4.Idx → EReal := fun i =>
  have w : BitVec 32 := (top x).2 (ix2 (i 0) (i 1))
  box w (reg (ix4 (i 0) 0 (row w) (col w))) (reg (ix4 (i 0) 1 (row w) (col w)))
    (wh (ix4 (i 0) 0 (row w) (col w))) (wh (ix4 (i 0) 1 (row w) (col w))) (i 2)

variable (m : (ℓ : Loc nD τ sig) → Buf (Elt Ideal) ℓ) (ρ : Dev nD → PrngReg)

/-- The scores, before the grid runs. -/
theorem V_values (c : Dev nD) : V m c main_values = (top (m ((c.tc : Thread nD τ).loc main_arg0))).1 := by
  show StableHlo.after (hostOps0 ++ (hostOps0_1 ++ hostOps0_2)) _ _ = _
  simp only [hostOps0, hostOps0_1, hostOps0_2, List.cons_append, List.nil_append]
  after_results
  rfl

/-- The positions padded to 128 a batch, as the blocks' index words. -/
def padded (x : S16x80x128x128.Idx → EReal) : S16x128x1.Idx → BitVec 32 :=
  shapeCast S16x128x1
    (pad S16x128 ![0, 0] ![0, 28] ![0, 0] (top x).2 (constantI S_ 32 0#32) pads_S16x100_S16x128_000_0280 h_S_)
    shapeCasts_S16x128_S16x128x1

theorem V_main_v2 (c : Dev nD) : V m c main_v2 = padded (m ((c.tc : Thread nD τ).loc main_arg0)) := by
  show StableHlo.after (hostOps0 ++ (hostOps0_1 ++ hostOps0_2)) _ _ = _
  simp only [hostOps0, hostOps0_1, hostOps0_2, List.cons_append, List.nil_append]
  after_results
  rfl

/-- Among the first 100 of a batch the padding changes nothing. -/
theorem padded_apply (x : S16x80x128x128.Idx → EReal) (b : Fin 16) (k : Fin 100) :
    padded x (ix3 b ⟨k.val, by omega⟩ 0) = (top x).2 (ix2 b k) := by
  pointwise [padded]

/-- The array the grid wrote, as the operations after the grid find it. -/
theorem grid_array (c : Dev nD) :
    Pipeline.withArrays (cfgs 0).spec c (V0 m c) (fun w => (dats m 0 c).arrAt w (cfgs 0).N) (Proc.devRef .tc main_v3)
      = whole (padded (m ((c.tc : Thread nD τ).loc main_arg0))) (m ((c.tc : Thread nD τ).loc main_arg2))
          (m ((c.tc : Thread nD τ).loc main_arg1)) := by
  refine (Pipeline.withArrays_arr (cfgs 0).spec launch0.win.arr_inj c (V0 m c) _ 3).trans ?_
  refine (final m c).trans ?_
  rw [V_main_v2, V_main_arg1, V_main_arg2]

/-- Its classes are the first result, -/
theorem whole_cls (x : S16x80x128x128.Idx → EReal) (reg wh : S16x2x128x128.Idx → EReal) (b : Fin 16) (k : Fin 100) :
    whole (padded x) reg wh (ix3 b ⟨k.val, by omega⟩ 0) = classes x (ix2 b k) := by
  show stored _ _ _ _ _ (ix3 0 ⟨k.val, _⟩ 0) = cls _
  rw [stored_cls]
  exact congrArg cls (padded_apply x b k)

/-- and its boxes the third. -/
theorem whole_box (x : S16x80x128x128.Idx → EReal) (reg wh : S16x2x128x128.Idx → EReal) (b : Fin 16) (k : Fin 100) (j : Fin 4) :
    whole (padded x) reg wh (ix3 b ⟨k.val, by omega⟩ ⟨1 + j.val, by omega⟩) = boxes x wh reg (ix3 b k j) := by
  have e : words (padded x) b (ix3 0 ⟨k.val, by omega⟩ 0) = (top x).2 (ix2 b k) := padded_apply x b k
  refine (stored_box (words (padded x) b) (plane reg b 0) (plane reg b 1) (plane wh b 0) (plane wh b 1) ⟨k.val, by omega⟩ j).trans ?_
  rw [e]
  rfl

theorem tail_v5 (c : Dev nD) : Pipeline.afterTail₀ cfgs (dats m) 0 (V0 m) [hostOps1] c main_v5
    = classes (m ((c.tc : Thread nD τ).loc main_arg0)) := by
  show StableHlo.after hostOps1 _ _ = _
  after_results
  rw [grid_array]
  show shapeCast S16x100 (extractStridedSlice (s := S16x128x8) S16x100x1 ![0, 0, 0] (whole (padded (m ((c.tc : Thread nD τ).loc main_arg0)))
    (m ((c.tc : Thread nD τ).loc main_arg2)) (m ((c.tc : Thread nD τ).loc main_arg1))) slices_S16x128x8_S16x100x1_0_0_0) shapeCasts_S16x100x1_S16x100 = _
  funext i
  idx_vars i
  pointwise
  exact whole_cls _ _ _ i0 i1

theorem tail_v6 (c : Dev nD) : Pipeline.afterTail₀ cfgs (dats m) 0 (V0 m) [hostOps1] c main_v6
    = boxes (m ((c.tc : Thread nD τ).loc main_arg0)) (m ((c.tc : Thread nD τ).loc main_arg1)) (m ((c.tc : Thread nD τ).loc main_arg2)) := by
  show StableHlo.after hostOps1 _ _ = _
  after_results
  rw [grid_array]
  show extractStridedSlice (s := S16x128x8) S16x100x4 ![0, 0, 1] (whole (padded (m ((c.tc : Thread nD τ).loc main_arg0))) (m ((c.tc : Thread nD τ).loc main_arg2))
    (m ((c.tc : Thread nD τ).loc main_arg1))) slices_S16x128x8_S16x100x4_0_0_1 = _
  funext i
  idx_vars i
  pointwise
  exact whole_box _ _ _ i0 i1 i2

theorem tail_values (c : Dev nD) : Pipeline.afterTail₀ cfgs (dats m) 0 (V0 m) [hostOps1] c main_values
    = (top (m ((c.tc : Thread nD τ).loc main_arg0))).1 := by
  show StableHlo.after hostOps1 _ _ = _
  after_results
  rw [Pipeline.withArrays_of_ne _ c (V0 m c) _ main_values (by exact (by decide : ∀ w, Pipeline.arrRef spec0 w ≠ main_values))]
  exact V_values m c

/-- The kernel's run: its three results, and its arguments unchanged. -/
theorem kernel_run : θ_run (defs (F := Ideal)) (onTc (τ := τ) (main (F := Ideal))) ⟨m, fun _ => 0, ρ⟩ fun r => ∀ c : Dev nD,
      r.2.mem ((c.tc : Thread nD τ).loc main_v5) = classes (m ((c.tc : Thread nD τ).loc main_arg0))
      ∧ r.2.mem ((c.tc : Thread nD τ).loc main_values) = (top (m ((c.tc : Thread nD τ).loc main_arg0))).1
      ∧ r.2.mem ((c.tc : Thread nD τ).loc main_v6)
          = boxes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c =>
    ⟨((h c).2 main_v5 (Pipeline.mem_restRefs_of main_v5 (by decide) (by decide))).trans (tail_v5 m c),
      ((h c).2 main_values (Pipeline.mem_restRefs_of main_values (by decide) (by decide))).trans (tail_values m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.Proof
-- ==== Proof.Gather.lean ====
/- The reference's gather: one element of a batch × cell × channel array for each triple (batch, cell, channel) of words. -/
module

public import proofs.«01_k».proof.Proof.Words
public import proofs.«01_k».proof.Proof.Gen.ReferenceIdeal

@[expose] public section

set_option maxRecDepth 16384

noncomputable section

namespace Cert.Proof

open Idealize.ShloMosaic
open Cert.ReferenceIdeal Cert.ReferenceIdeal.Gen

/-- The gather's dimension numbers. -/
abbrev triples : GatherDims S16x16384x2 S16x100x3 S16x100 := gather_S16x16384x2_S16x100x3_S16x100_n_012_n_n_012_2_111

theorem mem_axes (a : Fin 3) : a ∈ ([0, 1, 2] : List (Fin 3)) := by revert a; decide

/-- The word that places axis `a` of the operand is the triple's component `a`. -/
theorem triples_siIdx (b : Fin 16) (k : Fin 100) (a : Fin 3) :
    triples.siIdx (ix2 b k) ⟨List.idxOf a triples.startIndexMap, List.idxOf_lt_length_iff.2 (mem_axes a)⟩ = ix3 b k a := by
  funext e
  refine Fin.ext ?_
  match a, e with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-- The gather reads, on each axis, the triple's component there, signed and brought into the axis. -/
theorem triples_coord (idx : S16x100x3.Idx → BitVec 32) (b : Fin 16) (k : Fin 100) (a : Fin 3) :
    triples.start (ix2 b k) idx a + triples.batchCoord (ix2 b k) a + triples.offCoord (ix2 b k) a
      = min (idx (ix3 b k a)).toInt.toNat (S16x16384x2.size a - triples.sliceSizes a) := by
  rw [GatherDims.batchCoord_eq_zero _ _ _ List.not_mem_nil,
    GatherDims.offCoord_eq_zero _ _ _ (fun h => ((GatherDims.mem_sKept _ _).mp h).1 (mem_axes a))]
  simp only [Nat.add_zero]
  unfold GatherDims.start
  rw [dif_pos (show a ∈ triples.startIndexMap from mem_axes a), triples_siIdx]

/-- Where the triple names an element of the operand, the gather reads that element. -/
theorem gather_triples (x : S16x16384x2.Idx → EReal) (idx : S16x100x3.Idx → BitVec 32) (b : Fin 16) (k : Fin 100)
    (t : Fin 16384) (ch : Fin 2) (h0 : (idx (ix3 b k 0)).toInt = b.val) (h1 : (idx (ix3 b k 1)).toInt = t.val)
    (h2 : (idx (ix3 b k 2)).toInt = ch.val) : Host.gather triples x idx (ix2 b k) = x (ix3 b t ch) := by
  unfold Host.gather
  congr 1
  funext a
  refine Fin.ext ?_
  refine (triples_coord idx b k a).trans ?_
  match a with
  | ⟨0, _⟩ =>
    show min (idx (ix3 b k 0)).toInt.toNat (16 - 1) = b.val
    rw [h0]; omega
  | ⟨1, _⟩ =>
    show min (idx (ix3 b k 1)).toInt.toNat (16384 - 1) = t.val
    rw [h1]; omega
  | ⟨2, _⟩ =>
    show min (idx (ix3 b k 2)).toInt.toNat (2 - 1) = ch.val
    rw [h2]; omega

end Cert.Proof
-- ==== Proof.Reference.lean ====
/- What the reference computes, one element at a time. A position's word `w` splits by remainders into the cell and the
   cell's column; the offsets and extents are gathered at (batch, cell, channel); the four corners of the box follow. -/
module

public import proofs.«01_k».proof.Proof.Block
public import proofs.«01_k».proof.Proof.Gather
public import proofs.«01_k».proof.Proof.Gen.ReferenceIdeal.Read

@[expose] public section

set_option maxRecDepth 16384

noncomputable section

namespace Cert.Proof

open Idealize.ShloMosaic
open Cert.ReferenceIdeal Cert.ReferenceIdeal.Gen Cert.ReferenceIdeal.Read

/-- The word of the position found at rank `k` of batch `b`. -/
def word (x : S16x80x128x128.Idx → EReal) (b : Fin 16) (k : Fin 100) : BitVec 32 :=
  val_main_indices (F := Ideal) x (ix2 b k)

/-- The first remainder is the cell, -/
theorem ref_cell (x : S16x80x128x128.Idx → EReal) (b : Fin 16) (k : Fin 100) :
    val_main_v4 (F := Ideal) x (ix2 b k) = cell (word x b k) :=
  (show val_main_v4 (F := Ideal) x (ix2 b k) = floorMod (word x b k) 16384#32 from rfl).trans (floorMod_16384 _)

/-- and the second its column. -/
theorem ref_col (x : S16x80x128x128.Idx → EReal) (b : Fin 16) (k : Fin 100) :
    val_main_v8 (F := Ideal) x (ix2 b k) = BitVec.ofNat 32 (col (word x b k)).val := by
  refine (show val_main_v8 (F := Ideal) x (ix2 b k) = floorMod (val_main_v4 (F := Ideal) x (ix2 b k)) 128#32 from rfl).trans ?_
  rw [ref_cell, floorMod_128]

/-- The batch as a word, after the wrap of negative indices. -/
theorem ref_batch (b : Fin 16) (k : Fin 100) : (val_main_v22 (F := Ideal) (ix2 b k)).toInt = b.val := by
  show (Scalar.select (IntOp.cmpi .slt (BitVec.ofNat 32 b.val) 0#32) (IntOp.addi (BitVec.ofNat 32 b.val) 16#32) (BitVec.ofNat 32 b.val)).toInt = _
  revert b; decide

/-- The cell as a word, after the wrap of negative indices. -/
theorem ref_wrapped (x : S16x80x128x128.Idx → EReal) (b : Fin 16) (k : Fin 100) :
    val_main_v27 (F := Ideal) x (ix2 b k) = cell (word x b k) := by
  show Scalar.select (IntOp.cmpi .slt (val_main_v4 (F := Ideal) x (ix2 b k)) 0#32)
    (IntOp.addi (val_main_v4 (F := Ideal) x (ix2 b k)) 16384#32) (val_main_v4 (F := Ideal) x (ix2 b k)) = _
  rw [ref_cell, wrap_of_lt _ _ (cell_lt _)]

/-- The operand of a gather: the array with its channels last and its plane flat, at the cell of a word. -/
theorem flat_at (x : S16x2x128x128.Idx → EReal) (w : BitVec 32) (b : Fin 16) (ch : Fin 2) :
    val_main_v10 (F := Ideal) x (ix3 b ⟨(cell w).toNat, cell_lt w⟩ ch) = x (ix4 b ch (row w) (col w)) := by
  pointwise [val_main_v10, val_main_v9]
  rfl

/-- The gather at channel 0, -/
theorem ref_ch0 (x0 : S16x80x128x128.Idx → EReal) (x : S16x2x128x128.Idx → EReal) (b : Fin 16) (k : Fin 100) :
    val_main_v37 (F := Ideal) x0 x (ix2 b k) = x (ix4 b 0 (row (word x0 b k)) (col (word x0 b k))) := by
  refine (gather_triples _ _ b k ⟨(cell (word x0 b k)).toNat, cell_lt _⟩ 0 ?_ ?_ ?_).trans (flat_at x _ b 0)
  · refine Eq.trans (congrArg BitVec.toInt ?_) (ref_batch b k)
    pointwise [val_main_v36, val_main_v33]
  · refine Eq.trans (congrArg BitVec.toInt ?_) (cell_toInt _)
    rw [← ref_wrapped]
    pointwise [val_main_v36, val_main_v34]
  · refine Eq.trans (congrArg BitVec.toInt (a₂ := 0#32) ?_) rfl
    pointwise [val_main_v36, val_main_v35]
    rfl

/-- and at channel 1. -/
theorem ref_ch1 (x0 : S16x80x128x128.Idx → EReal) (x : S16x2x128x128.Idx → EReal) (b : Fin 16) (k : Fin 100) :
    val_main_v57 (F := Ideal) x0 x (ix2 b k) = x (ix4 b 1 (row (word x0 b k)) (col (word x0 b k))) := by
  refine (gather_triples _ _ b k ⟨(cell (word x0 b k)).toNat, cell_lt _⟩ 1 ?_ ?_ ?_).trans (flat_at x _ b 1)
  · refine Eq.trans (congrArg BitVec.toInt ?_) (ref_batch b k)
    pointwise [val_main_v56, val_main_v53]
    rfl
  · refine Eq.trans (congrArg BitVec.toInt ?_) (cell_toInt _)
    rw [← ref_wrapped]
    pointwise [val_main_v56, val_main_v54]
    rfl
  · refine Eq.trans (congrArg BitVec.toInt (a₂ := 1#32) ?_) rfl
    pointwise [val_main_v56, val_main_v55]
    rfl

/-- The classes. -/
theorem ref_cls (x : S16x80x128x128.Idx → EReal) (b : Fin 16) (k : Fin 100) :
    val_main_v3 (F := Ideal) x (ix2 b k) = cls (word x b k) := rfl

/-- The box's centre, across -/
theorem ref_cx (x0 : S16x80x128x128.Idx → EReal) (x2 : S16x2x128x128.Idx → EReal) (b : Fin 16) (k : Fin 100) :
    val_main_v59 (F := Ideal) x0 x2 (ix2 b k)
      = cx (word x0 b k) (x2 (ix4 b 0 (row (word x0 b k)) (col (word x0 b k)))) := by
  show num (val_main_v8 (F := Ideal) x0 (ix2 b k)) + val_main_v37 (F := Ideal) x0 x2 (ix2 b k) = _
  rw [ref_col, ref_ch0]
  rfl

/-- and down. -/
theorem ref_cy (x0 : S16x80x128x128.Idx → EReal) (x2 : S16x2x128x128.Idx → EReal) (b : Fin 16) (k : Fin 100) :
    val_main_v60 (F := Ideal) x0 x2 (ix2 b k)
      = cy (word x0 b k) (x2 (ix4 b 1 (row (word x0 b k)) (col (word x0 b k)))) := by
  show Ideal.div (num (val_main_v4 (F := Ideal) x0 (ix2 b k))) (Ideal.ofBits .f32 0x43000000#32) + val_main_v57 (F := Ideal) x0 x2 (ix2 b k) = _
  rw [ref_cell, ref_ch1]
  rfl

/-- Half its width -/
theorem ref_hw (x0 : S16x80x128x128.Idx → EReal) (x1 : S16x2x128x128.Idx → EReal) (b : Fin 16) (k : Fin 100) :
    val_main_v102 (F := Ideal) x0 x1 (ix2 b k) = half (x1 (ix4 b 0 (row (word x0 b k)) (col (word x0 b k)))) := by
  exact congrArg half (ref_ch0 x0 x1 b k)

/-- and half its height. -/
theorem ref_hh (x0 : S16x80x128x128.Idx → EReal) (x1 : S16x2x128x128.Idx → EReal) (b : Fin 16) (k : Fin 100) :
    val_main_v104 (F := Ideal) x0 x1 (ix2 b k) = half (x1 (ix4 b 1 (row (word x0 b k)) (col (word x0 b k)))) := by
  exact congrArg half (ref_ch1 x0 x1 b k)

/-- The boxes. -/
theorem ref_box (x0 : S16x80x128x128.Idx → EReal) (x1 x2 : S16x2x128x128.Idx → EReal) (b : Fin 16) (k : Fin 100) (j : Fin 4) :
    val_main_v115 (F := Ideal) x0 x1 x2 (ix3 b k j)
      = box (word x0 b k) (x2 (ix4 b 0 (row (word x0 b k)) (col (word x0 b k)))) (x2 (ix4 b 1 (row (word x0 b k)) (col (word x0 b k))))
          (x1 (ix4 b 0 (row (word x0 b k)) (col (word x0 b k)))) (x1 (ix4 b 1 (row (word x0 b k)) (col (word x0 b k)))) j := by
  pointwise [val_main_v115, val_main_v114, val_main_v113, val_main_v112, val_main_v111, val_main_v110, val_main_v109,
    val_main_v108, val_main_v107, val_main_v106, val_main_v105, val_main_cst_30, box]
  simp only [ref_cx, ref_cy, ref_hw, ref_hh]
  rfl

end Cert.Proof
-- ==== Proof.Equation.lean ====
/- The reference's run, its three results stated by the same functions of the arguments as the kernel's run states its
   own: the classes, the scores and the boxes. -/
module

public import proofs.«01_k».proof.Proof.KernelRun
public import proofs.«01_k».proof.Proof.Reference
public import Idealize.ShloMosaic.Lib.Claim

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Read

/-- The scores are the same. -/
theorem scores_eq (x : S16x80x128x128.Idx → EReal) : val_main_values (F := Ideal) x = (top x).1 := rfl

/-- The positions are the same. -/
theorem word_eq (x : S16x80x128x128.Idx → EReal) (b : Fin 16) (k : Fin 100) : word x b k = (top x).2 (ix2 b k) := rfl

/-- The classes are the same. -/
theorem classes_eq (x : S16x80x128x128.Idx → EReal) : val_main_v3 (F := Ideal) x = classes x := by
  funext i
  idx_vars i
  exact ref_cls x i0 i1

/-- The boxes are the same. -/
theorem boxes_eq (x : S16x80x128x128.Idx → EReal) (wh reg : S16x2x128x128.Idx → EReal) :
    val_main_v115 (F := Ideal) x wh reg = boxes x wh reg := by
  funext i
  idx_vars i
  refine (ref_box x wh reg i0 i1 i2).trans ?_
  rw [word_eq]
  rfl

variable (m : (ℓ : Loc nD τ sig) → Buf (Elt Ideal) ℓ) (ρ : Dev nD → PrngReg)

/-- The reference's run: its three results, and its arguments unchanged. -/
theorem reference_run : θ_run (defs (F := Ideal)) (onTc (τ := τ) (main (F := Ideal))) ⟨m, fun _ => 0, ρ⟩ fun r => ∀ c : Dev nD,
      r.2.mem ((c.tc : Thread nD τ).loc main_v3) = classes (m ((c.tc : Thread nD τ).loc main_arg0))
      ∧ r.2.mem ((c.tc : Thread nD τ).loc main_values) = (top (m ((c.tc : Thread nD τ).loc main_arg0))).1
      ∧ r.2.mem ((c.tc : Thread nD τ).loc main_v115)
          = boxes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c =>
    ⟨((h c).1.trans (val_main_v3_eq (StableHlo.launchContents m c))).trans (classes_eq _),
      (h c).2.1.trans (val_main_values_eq (StableHlo.launchContents m c)),
      ((h c).2.2.1.trans (val_main_v115_eq (StableHlo.launchContents m c))).trans (boxes_eq _ _ _),
      (h c).2.2.2⟩)
    (Cert.ReferenceIdeal.Value.run (F := Ideal) m ρ)

end Cert.Proof
-- ==== Proof.lean ====
/- The five claims. The kernel, as it runs and read over the extended reals, and the reference each run to the end, leave
   their arguments as they were and every semaphore at zero. The kernel read over the extended reals is the kernel's own
   text. And its three results — classes, scores and boxes — are the reference's, for any arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel runs, leaves its arguments as they were and every semaphore at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference, which has no semaphores. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (reference_run m ρ)

/-- From equal arguments the kernel and the reference compute equal classes, scores and boxes. -/
theorem algebraic : Cert.algebraic_KernelIdeal_ReferenceIdeal := by
  intro m ρ m' ρ' _ hargs
  refine ⟨_, _, _, kernel_run m ρ, (θ_run Cert.ReferenceIdeal.defs _ _).mono (fun _ h c => ?_) (reference_run m' ρ')⟩
  obtain ⟨h0, h1, h2⟩ := hargs c
  refine ⟨(h c).1.trans (congrArg classes h0), (h c).2.1.trans (congrArg (fun x => (top x).1) h0),
    (h c).2.2.1.trans ?_, (h c).2.2.2⟩
  rw [h0, h1, h2]

theorem claim : Cert.Claim := ⟨Cert.Kernel.Gen.facts, Cert.KernelIdeal.Gen.facts, Cert.ReferenceIdeal.Gen.facts,
  frame_kernel, frame_ideal, frame_reference, trivial, algebraic⟩

end Cert.Proof

end
